-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 2048, 256]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 2048, 256]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x256 : Shape := ⟨3, ![4, 512, 256]⟩
abbrev S4x256 : Shape := ⟨2, ![4, 256]⟩
abbrev S4x3x256 : Shape := ⟨3, ![4, 3, 256]⟩
abbrev S_ : Shape := ⟨0, ![]⟩
abbrev S4x515x256 : Shape := ⟨3, ![4, 515, 256]⟩
abbrev S1x256 : Shape := ⟨2, ![1, 256]⟩
abbrev S256 : Shape := ⟨1, ![256]⟩
abbrev S1x1x256 : Shape := ⟨3, ![1, 1, 256]⟩
abbrev S4x2x256 : Shape := ⟨3, ![4, 2, 256]⟩
abbrev S4x5x256 : Shape := ⟨3, ![4, 5, 256]⟩
abbrev S4x4x256 : Shape := ⟨3, ![4, 4, 256]⟩

abbrev nBuf : Space → Nat
  | .hbm => 3
  | .vmem => 5
  | .smem => 0
  | _ => 0

abbrev bufTy : (tb : Table) → Fin (tcTables nBuf tb) → BufTy
  | .hbm, ⟨0, _⟩ => ⟨S4x512x256, .bf16⟩
  | .hbm, ⟨1, _⟩ => ⟨S4x256, .bf16⟩
  | .hbm, ⟨2, _⟩ => ⟨S4x512x256, .bf16⟩
  | .local _ .vmem, ⟨0, _⟩ => ⟨S4x512x256, .bf16⟩
  | .local _ .vmem, ⟨1, _⟩ => ⟨S4x256, .bf16⟩
  | .local _ .vmem, ⟨2, _⟩ => ⟨S4x512x256, .bf16⟩
  | .local _ .vmem, ⟨3, _⟩ => ⟨S4x3x256, .bf16⟩
  | .local _ .vmem, ⟨4, _⟩ => ⟨S4x3x256, .bf16⟩
  | _, _ => ⟨S4x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21 : BitVec 32 := 1#32
  let v33 : BitVec 32 := Scalar.muli v24 c1_i32_21
  let v34 : BitVec 32 := Scalar.addi c0_i32_22 v33
  v34.toNat
abbrev stage0_0 : Fin 1 → Memref sig .tc .vmem S4x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2048x256 : Shape := ⟨3, ![4, 2048, 256]⟩
abbrev S4x256 : Shape := ⟨2, ![4, 256]⟩
abbrev S_ : Shape := ⟨0, ![]⟩
abbrev S4x3x256 : Shape := ⟨3, ![4, 3, 256]⟩
abbrev S4x2051x256 : Shape := ⟨3, ![4, 2051, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x256, .bf16⟩
  | .hbm, ⟨1, _⟩ => ⟨S4x256, .bf16⟩
  | .hbm, ⟨2, _⟩ => ⟨S4x2048x256, .f32⟩
  | .hbm, ⟨3, _⟩ => ⟨S4x256, .f32⟩
  | .hbm, ⟨4, _⟩ => ⟨S_, .f32⟩
  | .hbm, ⟨5, _⟩ => ⟨S4x3x256, .f32⟩
  | .hbm, ⟨6, _⟩ => ⟨S4x2051x256, .f32⟩
  | .hbm, ⟨7, _⟩ => ⟨S_, .f32⟩
  | .hbm, ⟨8, _⟩ => ⟨S4x2048x256, .f32⟩
  | .hbm, ⟨9, _⟩ => ⟨S4x2048x256, .f32⟩
  | .hbm, ⟨10, _⟩ => ⟨S1x256, .f32⟩
  | .hbm, ⟨11, _⟩ => ⟨S256, .f32⟩
  | .hbm, ⟨12, _⟩ => ⟨S1x1x256, .f32⟩
  | .hbm, ⟨13, _⟩ => ⟨S4x2048x256, .f32⟩
  | .hbm, ⟨14, _⟩ => ⟨S4x2048x256, .f32⟩
  | .hbm, ⟨15, _⟩ => ⟨S4x2048x256, .f32⟩
  | .hbm, ⟨16, _⟩ => ⟨S4x2048x256, .f32⟩
  | .hbm, ⟨17, _⟩ => ⟨S1x256, .f32⟩
  | .hbm, ⟨18, _⟩ => ⟨S256, .f32⟩
  | .hbm, ⟨19, _⟩ => ⟨S1x1x256, .f32⟩
  | .hbm, ⟨20, _⟩ => ⟨S4x2048x256, .f32⟩
  | .hbm, ⟨21, _⟩ => ⟨S4x2048x256, .f32⟩
  | .hbm, ⟨22, _⟩ => ⟨S4x2048x256, .f32⟩
  | .hbm, ⟨23, _⟩ => ⟨S4x2048x256, .f32⟩
  | .hbm, ⟨24, _⟩ => ⟨S1x256, .f32⟩
  | .hbm, ⟨25, _⟩ => ⟨S256, .f32⟩
  | .hbm, ⟨26, _⟩ => ⟨S1x1x256, .f32⟩
  | .hbm, ⟨27, _⟩ => ⟨S4x2048x256, .f32⟩
  | .hbm, ⟨28, _⟩ => ⟨S4x2048x256, .f32⟩
  | .hbm, ⟨29, _⟩ => ⟨S4x2048x256, .f32⟩
  | .hbm, ⟨30, _⟩ => ⟨S4x2048x256, .f32⟩
  | .hbm, ⟨31, _⟩ => ⟨S1x256, .f32⟩
  | .hbm, ⟨32, _⟩ => ⟨S256, .f32⟩
  | .hbm, ⟨33, _⟩ => ⟨S1x1x256, .f32⟩
  | .hbm, ⟨34, _⟩ => ⟨S4x2048x256, .f32⟩
  | .hbm, ⟨35, _⟩ => ⟨S4x2048x256, .f32⟩
  | .hbm, ⟨36, _⟩ => ⟨S4x2048x256, .f32⟩
  | .hbm, ⟨37, _⟩ => ⟨S4x2048x256, .f32⟩
  | .hbm, ⟨38, _⟩ => ⟨S4x2048x256, .f32⟩
  | .hbm, ⟨39, _⟩ => ⟨S_, .f32⟩
  | .hbm, ⟨40, _⟩ => ⟨S4x2048x256, .f32⟩
  | .hbm, ⟨41, _⟩ => ⟨S4x2048x256, .f32⟩
  | .hbm, ⟨42, _⟩ => ⟨S4x2048x256, .f32⟩
  | .hbm, ⟨43, _⟩ => ⟨S4x2048x256, .bf16⟩
  | _, _ => ⟨S4x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]
-- ==== Proof.Ring.lean ====
/-
# The halo exchange: cells, contents and schedule

The kernel runs on four devices in a line of blocks: device `c` holds rows `512 c … 512 c + 511` of the sequence and
needs, for its first three results, the last three rows of the device before it (`before c`, around the ring; device 0
throws what it receives away and uses zeros). Three semaphores carry the exchange on every device:

* the barrier semaphore, signalled once by the device after it (`after c`), whose landing buffer it thereby lends;
* the send semaphore of the transfer going out, which gives the buffer it was sent from back;
* the receive semaphore of the transfer coming in, which gives the landing buffer back, holding the neighbour's rows.

Each semaphore is used once, so each cell has one round with one duty. This module states the schedule of those duties
and what each of them hands over, for any float values.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.HaloProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra of the exchange -/

/-- The library's rounds over the program's cells, one duty a round. -/
abbrev UH : Type := URounds (GSem nD τ sig) Unit
/-- The pipeline's algebra beside the exchange's. -/
abbrev UU : Type := UR sig nD τ × UH

local notation "𝕄" => MT nD τ sig Unit (Elt F) ℕ UU ℕ

/-- Where the pipeline's algebra sits. -/
abbrev EP : Emb (UR sig nD τ) (MT nD τ sig Unit (Elt F) ℕ UU ℕ) := embL
/-- Where the exchange's algebra sits. -/
abbrev EH : Emb UH (MT nD τ sig Unit (Elt F) ℕ UU ℕ) := embR

variable (m : (ℓ : Loc nD τ sig) → Buf (Elt F) ℓ)

/-! ## Neighbours -/

set_option backward.proofsInPublic true in
/-- The device holding the following block, around the ring. -/
def after (c : Dev nD) : Dev nD := ⟨(c.val + 1) % 4, Nat.mod_lt _ (by decide)⟩
set_option backward.proofsInPublic true in
/-- The device holding the preceding block, around the ring. -/
def before (c : Dev nD) : Dev nD := ⟨(c.val + 3) % 4, Nat.mod_lt _ (by decide)⟩

theorem before_after (c : Dev nD) : before (after c) = c := by revert c; decide
theorem after_before (c : Dev nD) : after (before c) = c := by revert c; decide

/-- Going one device forward, as a permutation of the devices. -/
def forward : Dev nD ≃ Dev nD := ⟨after, before, before_after, after_before⟩

/-- The device whose barrier semaphore `c` signals is the one before it. -/
theorem signalled (c : Dev nD) : (⟨k0_dev1 c, k0_dev1_lt c⟩ : Dev nD) = before c := by revert c; decide +kernel
/-- The device `c` sends its last rows to is the one after it. -/
theorem addressed (c : Dev nD) : (⟨k0_dev2 c, k0_dev2_lt c⟩ : Dev nD) = after c := by revert c; decide +kernel

/-! ## Buffers -/

/-- The staged block of `x`. -/
abbrev xM : Memref sig .tc .vmem S4x512x256 .bf16 := Memref.whole cc0_stg0_0
/-- The staged filter. -/
abbrev kM : Memref sig .tc .vmem S4x256 .bf16 := Memref.whole cc0_stg1_0
/-- The staged block of the result. -/
abbrev oM : Memref sig .tc .vmem S4x512x256 .bf16 := Memref.whole cc0_stg2_0
/-- The buffer the last rows are sent from. -/
abbrev tM : Memref sig .tc .vmem S4x3x256 .bf16 := Memref.whole cc0_scratch0
/-- The landing buffer for the preceding block's last rows. -/
abbrev hM : Memref sig .tc .vmem S4x3x256 .bf16 := Memref.whole cc0_scratch1

/-- Rows 509, 510, 511 of a block. -/
abbrev lastRows : Rect S4x512x256 := Rect.unit (s := S4x512x256) ![0, 509, 0] S4x3x256.size inb_S4x512x256_S4x3x256_0_509_0
/-- Rows 0 to 3 of a block. -/
abbrev headRows : Rect S4x512x256 := Rect.unit (s := S4x512x256) ![0, 0, 0] S4x4x256.size inb_S4x512x256_S4x4x256_0_0_0

/-! ## Cells -/

/-- The barrier semaphore. -/
abbrev barS : Sem sig := (SemArray.scalar (sig.barrier 0 rfl) : Sems sig S_).sem

/-- The three semaphores of the exchange: barrier, send, receive. -/
abbrev semAt : Fin 3 → SemLoc sig := fun | 0 => .reg barS | 1 => .dma cc0_scratch2.sem | 2 => .dma cc0_scratch3.sem
/-- The cell of device `c`'s semaphore `k`. -/
abbrev cell (c : Dev nD) (k : Fin 3) : GSem nD τ sig := ((c : Thread nD τ), semAt k)

/-- Which of the three semaphores a cell's is, if any. -/
def which (s : SemLoc sig) : Option (Fin 3) :=
  if s = semAt 0 then some 0 else if s = semAt 1 then some 1 else if s = semAt 2 then some 2 else none

theorem which_at (k : Fin 3) : which (semAt k) = some k := by revert k; decide

theorem semAt_injective : Function.Injective semAt := fun k k' h => Option.some.inj ((which_at k).symm.trans ((congrArg which h).trans (which_at k')))

theorem cell_injective : Function.Injective fun ck : Dev nD × Fin 3 => cell ck.1 ck.2 := by
  rintro ⟨c, k⟩ ⟨c', k'⟩ h
  have hd : c = c' := congrArg (fun g : GSem nD τ sig => g.1.1) h
  have hk : k = k' := semAt_injective (congrArg Prod.snd h)
  rw [hd, hk]

/-- The units a transfer of three rows credits. -/
abbrev N : ℕ := (hM : Memref sig .tc .vmem S4x3x256 .bf16).view.dmaCredit
theorem N_pos : 0 < N := View.dmaCredit_pos _ (by decide)

/-- The units the one duty of a cell pays: one at a barrier, the rows' credit at the other two. -/
def units : Fin 3 → ℕ := fun k => if k = 0 then 1 else N
theorem units_pos (k : Fin 3) : 0 < units k := by
  unfold units; split
  · exact Nat.one_pos
  · exact N_pos

/-! ## Contents -/

/-- Device `c`'s block of `x`, as staged. -/
def xAt (c : Dev nD) : (cc0_stg0_0 : Ref sig .tc).ty.Contents (Elt F) :=
  (win0_0.blk t0_0).view.read (Elt F) (m ((c : Thread nD τ).loc main_arg0))
/-- Device `c`'s filter, as staged. -/
def kAt (c : Dev nD) : (cc0_stg1_0 : Ref sig .tc).ty.Contents (Elt F) :=
  (win0_1.blk t0_0).view.read (Elt F) (m ((c : Thread nD τ).loc main_arg1))

/-- The last three rows of device `c`'s block: what it sends. -/
def sentAt (c : Dev nD) : (cc0_scratch0 : Ref sig .tc).ty.Contents (Elt F) :=
  k0_pay4 (k0_pay3 (xM.view.readAt (Elt F) lastRows.toLoadRect (xAt m c)))

/-- What device `c` uses as the rows before its block: what landed, and zeros on device 0. -/
def haloAt (c : Dev nD) : (cc0_scratch1 : Ref sig .tc).ty.Contents (Elt F) := if c = 0 then k0_pay1 else sentAt m (before c)

/-- The whole block as first stored: every row computed from the block alone. -/
def ownAt (c : Dev nD) : (cc0_stg2_0 : Ref sig .tc).ty.Contents (Elt F) := k0_pay7 (xAt m c) (kAt m c)

/-- Rows 0, 1, 2 computed again, with the rows before the block. -/
def headAt (c : Dev nD) : FVec F S4x3x256 .bf16 := k0_pay2 (k0_pay5 (kAt m c)) (k0_pay6 (xAt m c) (kAt m c)) (haloAt m c)

/-- Device `c`'s result: the whole block with rows 0, 1, 2 put over it, through a store of rows 0 to 3. -/
def outAt (c : Dev nD) : (cc0_stg2_0 : Ref sig .tc).ty.Contents (Elt F) :=
  (oM.access headRows).write (Elt F) (ownAt m c)
    (updateSlice (oM.view.readAt (Elt F) headRows.toLoadRect (ownAt m c)) (headAt m c) ![0, 0, 0] slices_S4x4x256_S4x3x256_0_0_0) Finset.univ

/-! ## What the duties hand over -/

/-- The landing buffer of device `c`, whole, at contents `f`. -/
def landing (c : Dev nD) (f : Buf (Elt F) (hM.view.loc (c : Thread nD τ))) : sProp 𝕄 :=
  hM.view.loc (c : Thread nD τ) ↦[hM.view.set]{fullShare} f
/-- The buffer device `c` sends from, whole, at contents `f`. -/
def leaving (c : Dev nD) (f : Buf (Elt F) (tM.view.loc (c : Thread nD τ))) : sProp 𝕄 :=
  tM.view.loc (c : Thread nD τ) ↦[tM.view.set]{fullShare} f

omit [FloatOps F] in
instance landing_storable (c : Dev nD) (f) : BI.Storable (upEmb : UEmb _ 𝕄) (landing (F := F) c f) := by unfold landing; infer_instance
omit [FloatOps F] in
instance leaving_storable (c : Dev nD) (f) : BI.Storable (upEmb : UEmb _ 𝕄) (leaving (F := F) c f) := by unfold leaving; infer_instance

omit [FloatOps F] in
theorem landing_eq (c : Dev nD) (f : Buf (Elt F) ((c : Thread nD τ).loc cc0_scratch1)) :
    landing c f = (((c : Thread nD τ).loc cc0_scratch1) ↦{fullShare} f : sProp 𝕄) := by
  unfold landing; rw [View.set_whole]
omit [FloatOps F] in
theorem leaving_eq (c : Dev nD) (f : Buf (Elt F) ((c : Thread nD τ).loc cc0_scratch0)) :
    leaving c f = (((c : Thread nD τ).loc cc0_scratch0) ↦{fullShare} f : sProp 𝕄) := by
  unfold leaving; rw [View.set_whole]

/-- What device `c` gains at its semaphore `k`: at the barrier the following device's landing buffer, at whatever it
    holds, with that device ready to receive; at the send semaphore the buffer it sent from; at the receive semaphore its own
    landing buffer holding the preceding block's last rows. -/
def gain (c : Dev nD) : Fin 3 → sProp 𝕄
  | 0 => iprop((∃ f, landing (after c) f) ∗ reached EH (cell (after c) 2) 0)
  | 1 => leaving c (sentAt m c)
  | 2 => landing c (sentAt m (before c))

omit [FloatOps F] in
instance gain_storable (c : Dev nD) (k : Fin 3) : BI.Storable (upEmb : UEmb _ 𝕄) (gain (F := F) m c k) := by
  match k with
  | 0 => unfold gain; infer_instance
  | 1 => unfold gain; infer_instance
  | 2 => unfold gain; infer_instance

/-! ## The schedule -/

/-- Round 0 of each of the twelve cells has the one duty; there is no later round and no other cell. -/
def sched : Rounds.Schedule (GSem nD τ sig) Unit 𝕄 where
  duties g r := if r = 0 ∧ g.1.2 = .tc ∧ (which g.2).isSome then {()} else ∅
  unitless _ := False
  amount g _ _ := units ((which g.2).getD 0)
  payload g _ _ := (which g.2).elim iprop(emp) (gain m g.1.1)
  amount_pos _ _ _ _ := units_pos _

omit [FloatOps F] in
instance sched_storable (g : GSem nD τ sig) (r : ℕ) (d : Unit) : BI.Storable (upEmb : UEmb _ 𝕄) ((sched (F := F) m).payload g r d) := by
  show BI.Storable upEmb ((which g.2).elim iprop(emp) (gain m g.1.1))
  cases which g.2 with
  | none => show BI.Storable upEmb (iprop(emp) : sProp 𝕄); infer_instance
  | some k => exact gain_storable m g.1.1 k

variable (c : Dev nD) (k : Fin 3)

omit [FloatOps F] in
theorem duties_cell : (sched (F := F) m).duties (cell c k) 0 = {()} :=
  if_pos ⟨rfl, rfl, by show (which (semAt k)).isSome; rw [which_at]; rfl⟩
omit [FloatOps F] in
theorem mem_duties : () ∈ (sched (F := F) m).duties (cell c k) 0 := by rw [duties_cell]; exact Finset.mem_singleton_self _
omit [FloatOps F] in
theorem duties_done (g : GSem nD τ sig) (r : ℕ) (hr : 1 ≤ r) : (sched (F := F) m).duties g r = ∅ :=
  if_neg fun h => absurd h.1 (by omega)
omit [FloatOps F] in
theorem amount_cell : (sched (F := F) m).amount (cell c k) 0 () = units k := by
  show units ((which (semAt k)).getD 0) = units k
  rw [which_at]; rfl
omit [FloatOps F] in
theorem payload_cell : (sched (F := F) m).payload (cell c k) 0 () = gain m c k := by
  show (which (semAt k)).elim iprop(emp) (gain m c) = gain m c k
  rw [which_at]; rfl
omit [FloatOps F] in
theorem expect_cell : (sched (F := F) m).expect (cell c k) 0 = units k := by
  unfold Schedule.expect Schedule.amountOf
  rw [duties_cell, Finset.sum_singleton, amount_cell]
omit [FloatOps F] in
/-- What a whole round of a cell hands over is its one duty's payload. -/
theorem round_gain : bigSep ((sched (F := F) m).duties (cell c k) 0 \ ∅) (fun d => (sched (F := F) m).payload (cell c k) 0 d) = gain m c k := by
  rw [Finset.sdiff_empty, duties_cell, bigSep_singleton, payload_cell]

end Cert.HaloProof

end
-- ==== Proof.Body.lean ====
/-
# The kernel's body on one device

From the two staged inputs, the two exchange buffers and the device's part in the exchange, one device's body runs to its
end and leaves `outAt` in the result's staging buffer, the exchange buffers, and its three semaphores at zero. The steps are
taken in program order.
-/
module

public import proofs.«01_k».proof.Proof.Ring

@[expose] public section

noncomputable section

namespace Cert.HaloProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## Debts and levels -/

/-- What device `c` has yet to send when it waits at its barrier: the rows' credit at the following device. -/
def debt (c : Dev nD) : CellTallies nD τ sig Unit := tallyAt (cell (after c) 2) () N
/-- What device `c` has to give in all: that, and the one unit at the preceding device's barrier. -/
def debts (c : Dev nD) : CellTallies nD τ sig Unit := debt c + tallyAt (cell (before c) 0) () 1

/-- Every semaphore of a TensorCore has a level. -/
def L (g : GSem nD τ sig) : Finset Unit := if g.1.2 = .tc then {()} else ∅
/-- The barrier lies below the receive semaphore, and every other semaphore below both. -/
def lv (g : GSem nD τ sig) (_ : Unit) : ℕ := (which g.2).elim 0 fun k => if k = 0 then 1 else if k = 2 then 2 else 0

theorem L_other (g : GSem nD τ sig) (h : g.1.2 ≠ .tc) : L g = ∅ := if_neg h
theorem L_mem (c : Dev nD) (s : SemLoc sig) (u : Unit) : u ∈ L ((c : Thread nD τ), s) := by
  rw [show L ((c : Thread nD τ), s) = {()} from if_pos rfl]; exact Finset.mem_singleton_self _
theorem lv_cell (c : Dev nD) (k : Fin 3) (u : Unit) : lv (cell c k) u = if k = 0 then 1 else if k = 2 then 2 else 0 := by
  show (which (semAt k)).elim 0 _ = _
  rw [which_at]; rfl

/-- The device owes credit at no cell but the following device's receive cell … -/
theorem debt_pos {c : Dev nD} {g : GSem nD τ sig} {u : Unit} (h : 0 < debt c g u) : g = cell (after c) 2 := by
  unfold debt at h; rw [tallyAt_apply] at h
  by_contra hn
  rw [if_neg fun e => hn e.1] at h
  exact Nat.lt_irrefl 0 h
/-- … and the preceding device's barrier. -/
theorem debts_pos {c : Dev nD} {g : GSem nD τ sig} {u : Unit} (h : 0 < debts c g u) : g = cell (after c) 2 ∨ g = cell (before c) 0 := by
  unfold debts at h; rw [Pi.add_apply, Finsupp.add_apply] at h
  rcases Nat.eq_zero_or_pos (debt c g u) with h0 | h0
  · rw [h0, Nat.zero_add, tallyAt_apply] at h
    by_contra hn
    rw [if_neg fun e => hn (.inr e.1)] at h
    exact Nat.lt_irrefl 0 h
  · exact .inl (debt_pos h0)

omit [FloatOps F] in
/-- A device may wait at its barrier while it owes the rows: the receive cell owed lies above the barrier. -/
theorem mayWait_barrier (c : Dev nD) : (levAts L lv : sProp 𝕄) ⊢ MayWait (c : Thread nD τ) (semAt 0) () (debt c) :=
  MayOwe.of_cut 1 (fun p hp => by rw [Finset.mem_singleton.mp hp]; exact L_mem _ _ _)
    (fun g u hg => by rw [debt_pos hg]; exact L_mem _ _ _)
    (fun p hp => by rw [Finset.mem_singleton.mp hp]; exact le_of_eq (lv_cell c 0 _))
    (fun g u hg => by rw [debt_pos hg, lv_cell]; decide)

omit [FloatOps F] in
/-- A device may wait at any semaphore outside the exchange while it owes everything: those cells lie below. -/
theorem mayWait_other (c : Dev nD) (s : SemLoc sig) (hs : which s = none) : (levAts L lv : sProp 𝕄) ⊢ MayWait (c : Thread nD τ) s () (debts c) :=
  MayOwe.of_cut 0 (fun p hp => by rw [Finset.mem_singleton.mp hp]; exact L_mem _ _ _)
    (fun g u hg => by rcases debts_pos hg with rfl | rfl <;> exact L_mem _ _ _)
    (fun p hp => by
      rw [Finset.mem_singleton.mp hp]
      show (which s).elim 0 _ ≤ 0
      rw [hs]; exact le_rfl)
    (fun g u hg => by rcases debts_pos hg with rfl | rfl <;> (rw [lv_cell]; decide))

/-! ## A device's part in the exchange -/

/-- Every cell's invariant, under the names `K`, with its round 0 begun. -/
def records (K : Dev nD × Fin 3 → ℕ) : sProp 𝕄 :=
  bigSep Finset.univ fun ck : Dev nD × Fin 3 => iprop(cellInv EH (sched m) (K ck) (cell ck.1 ck.2) ∗ reached EH (cell ck.1 ck.2) 0)

omit [FloatOps F] in
instance records_persistent (K : Dev nD × Fin 3 → ℕ) : BI.Persistent (records (F := F) m K) := by unfold records; infer_instance

omit [FloatOps F] in
theorem record (K : Dev nD × Fin 3 → ℕ) (c : Dev nD) (k : Fin 3) :
    records (F := F) m K ⊢ iprop(cellInv EH (sched m) (K (c, k)) (cell c k) ∗ reached EH (cell c k) 0) := by
  unfold records
  exact bigSep_elim (Φ := fun ck : Dev nD × Fin 3 => iprop(cellInv EH (sched m) (K ck) (cell ck.1 ck.2) ∗ reached EH (cell ck.1 ck.2) 0)) (Finset.mem_univ (c, k))

/-- The duties device `c` pays: the preceding device's barrier, its own send cell, the following device's receive cell. -/
def duties (c : Dev nD) : sProp 𝕄 :=
  iprop(dutyTok EH (cell (before c) 0) 0 () ∗ dutyTok EH (cell c 1) 0 () ∗ dutyTok EH (cell (after c) 2) 0 ())
/-- Device `c` at round 0 of its three cells. -/
def places (c : Dev nD) : sProp 𝕄 :=
  iprop(atPos EH (cell c 0) 0 ∅ 0 ∗ atPos EH (cell c 1) 0 ∅ 0 ∗ atPos EH (cell c 2) 0 ∅ 0)
/-- Device `c`'s part: the records, its places and its duties. -/
def part (c : Dev nD) : sProp 𝕄 := iprop(∃ K, records m K ∗ places c ∗ duties c)

/-- What device `c`'s body starts from beside its buffers: its part, the credit its barrier and its receive cell will be given,
    and the levels. -/
def start (c : Dev nD) : sProp 𝕄 :=
  iprop(part m c ∗ cred (tallyAt (cell c 0) () 1) ∗ cred (tallyAt (cell c 2) () N) ∗ levAts L lv)

/-- The two exchange buffers of device `c`, whatever they hold. -/
def spare (c : Dev nD) : sProp 𝕄 := iprop((∃ f, leaving (F := F) c f) ∗ (∃ f, landing (F := F) c f))

/-- Before the body. -/
def entering (c : Dev nD) : sProp 𝕄 := iprop(start m c ∗ spare (F := F) c)
/-- After the body: the buffers again, and the three semaphores at zero. -/
def left (c : Dev nD) : sProp 𝕄 := iprop(spare (F := F) c ∗ semVal (cell c 0) 0 ∗ semVal (cell c 1) 0 ∗ semVal (cell c 2) 0)

/-- The one grid point's data on device `c`: the arrays as launched, each window's contents after the body, and what is held
    and owed before and after. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => kAt m c
    | ⟨2, _⟩ => outAt m c
  Φ t := match t with
    | ⟨0, _⟩ => entering m c
    | ⟨_ + 1, _⟩ => left c
  q _ := fullShare
  owed t := match t with
    | ⟨0, _⟩ => debts c
    | ⟨_ + 1, _⟩ => 0

/-- No loop of the kernel needs a variant. -/
abbrev 𝒱₀ : Variants := Variants.none

/-! ## Steps -/

local notation "E₀" => wpE (defs₀ (F := F)) 𝒱₀

/-- Waiting for the whole of one's own cell `k`: the wait takes the credit, hands over what the cell gives, and the cell, with
    no round left, closes with its semaphore at zero. -/
theorem wp_collect (K : Dev nD × Fin 3 → ℕ) (c : Dev nD) (k : Fin 3) {w : TpuEff nD τ sig (Elt F) Λ₀ .tc PUnit} {n : ℕ} (hn : n = units k)
    (hw : ∀ P : PUnit → sProp 𝕄, E₀ (c : Thread nD τ) none Set.univ w P = waitSpec (c : Thread nD τ) Set.univ (semAt k) n P)
    {O : CellTallies nD τ sig Unit} {W : Waits sig Unit}
    {α : Type} {Q : α → sProp 𝕄} {next : PUnit → Prog (TpuEff nD τ sig (Elt F) Λ₀ .tc) α} :
    iprop(records m K ∗ cred (tallyAt (cell c k) () n) ∗ owes (c : Thread nD τ) O W ∗ MayWait (c : Thread nD τ) (semAt k) () O ∗ atPos EH (cell c k) 0 ∅ 0)
      ⊢ iprop(((owes (c : Thread nD τ) O (insert (semAt k, ()) W) ∗ semVal (cell c k) 0 ∗ gain m c k)
            -∗ wp frame (E₀ (c : Thread nD τ) none) Set.univ (next ⟨⟩) Q)
          -∗ wp frame (E₀ (c : Thread nD τ) none) Set.univ (.op w next) Q) := by
  iintro ⟨#HR, Hc, HO, Hm, Hat⟩ Hk
  ihave Hr := (record m K c k) $$ HR
  icases Hr with ⟨#HI, -⟩
  iapply (Rounds.wp_wait_rest_token 𝒱₀ EH (sched m) (c : Thread nD τ) none (κ := K (c, k)) hw (Set.mem_univ _) () (R := 0) (m := 0) (T := ∅)
      (by rw [Nat.zero_add, hn]; exact (expect_cell m c k).symm)) $$ [Hc HO Hm Hat]
  · isplitr; · iexact HI
    isplitl [Hc]; · iexact Hc
    isplitl [HO]; · iexact HO
    isplitl [Hm] <;> iassumption
  iintro ⟨HO, Hat, -, Hg⟩
  ihave Hg' := (Entails.of_eq (round_gain m c k)) $$ Hg
  imod (Rounds.cell_close EH (sched m) (Set.mem_univ (K (c, k))) (fun h => h) (R := 0 + 1) (duties_done m (cell c k))) $$ [Hat] with Hz
  · isplitr; · iexact HI
    iexact Hat
  iapply Hk
  isplitl [HO]; · iexact HO
  isplitl [Hz] <;> iassumption

/-- Signalling the preceding device's barrier: with the unit goes the landing buffer. -/
theorem wp_invite (K : Dev nD × Fin 3 → ℕ) (c d : Dev nD) (hd : d = before c) {n : ℕ} (hn : n = 1) {W : Waits sig Unit}
    {α : Type} {Q : α → sProp 𝕄} {next : PUnit → Prog (TpuEff nD τ sig (Elt F) Λ₀ .tc) α} :
    iprop(records m K ∗ owes (c : Thread nD τ) (debts c) W ∗ dutyTok EH (cell (before c) 0) 0 () ∗ ∃ f, landing (F := F) c f)
      ⊢ iprop((owes (c : Thread nD τ) (debt c) W -∗ wp frame (E₀ (c : Thread nD τ) none) Set.univ (next ⟨⟩) Q)
          -∗ wp frame (E₀ (c : Thread nD τ) none) Set.univ (.op (.semSignal (d : Thread nD τ) barS n) next) Q) := by
  subst hd hn
  iintro ⟨#HR, HO, Ht, Hl⟩
  ihave Hr := (record m K (before c) 0) $$ HR
  icases Hr with ⟨#HI, #Hb⟩
  ihave Hr := (record m K c 2) $$ HR
  icases Hr with ⟨-, #Hv⟩
  iapply (Rounds.wp_signal 𝒱₀ EH (sched m) (c : Thread nD τ) none (dst := (before c : Thread nD τ)) (κ := K (before c, 0)) (d := ())
      (mem_duties m (before c) 0) (amount_cell m (before c) 0) () (debt c) rfl)
  isplitr; · iexact HI
  isplitl [HO]; · iexact HO
  isplitl [Ht]; · iexact Ht
  isplitl [Hl]
  · iapply (Entails.of_eq (payload_cell m (before c) 0).symm)
    unfold gain; rw [after_before]
    isplitl [Hl]; · iexact Hl
    iexact Hv
  iexact Hb

omit [FloatOps F] in
/-- A transfer out of the sending buffer into the landing buffer leaves in the one what the other holds. -/
theorem write_landing (f : (cc0_scratch1 : Ref sig .tc).ty.Contents (Elt F)) (w : (cc0_scratch0 : Ref sig .tc).ty.Contents (Elt F)) :
    hM.view.write (Elt F) f (tM.view.read (Elt F) w) Finset.univ = w := View.write_whole_univ cc0_scratch1 f w

/-- Sending the last rows to the following device: the sending buffer goes in with what it holds, and the following device's
    landing buffer is filled with it. -/
theorem wp_send_rows (K : Dev nD × Fin 3 → ℕ) (c d : Dev nD) (hd : d = after c)
    {hsc : (hM : Memref sig (Dev.tc d : Thread nD τ).2.kind .vmem S4x3x256 .bf16).view.ref.isScScratch = false}
    {hsrc : (tM : Memref sig .tc .vmem S4x3x256 .bf16).view.WordExact} {hdst : (hM : Memref sig .tc .vmem S4x3x256 .bf16).view.WordExact}
    {hsem : DmaTarget.Typed .vmem (semAt 2) (.remote (Dev.tc d : Thread nD τ) (hM : Memref sig .tc .vmem S4x3x256 .bf16) (semAt 1) hsc)}
    (f : Buf (Elt F) (hM.view.loc (after c : Thread nD τ))) {W : Waits sig Unit}
    {α : Type} {Q : α → sProp 𝕄} {next : PUnit → Prog (TpuEff nD τ sig (Elt F) Λ₀ .tc) α} :
    iprop(records m K ∗ leaving c (sentAt m c) ∗ landing (after c) f ∗ owes (c : Thread nD τ) (debt c) W
        ∗ dutyTok EH (cell c 1) 0 () ∗ dutyTok EH (cell (after c) 2) 0 ())
      ⊢ iprop(((cred (tallyAt (cell c 1) () N) ∗ owes (c : Thread nD τ) 0 W) -∗ wp frame (E₀ (c : Thread nD τ) none) Set.univ (next ⟨⟩) Q)
          -∗ wp frame (E₀ (c : Thread nD τ) none) Set.univ
              (.op (.enqueueDma tM (.remote (Dev.tc d : Thread nD τ) hM (semAt 1) hsc) (semAt 2) hsrc hdst hsem) next) Q) := by
  subst hd
  iintro ⟨#HR, Hs, Hl, HO, Ht1, Ht2⟩
  ihave Hr := (record m K c 1) $$ HR
  icases Hr with ⟨#HI1, #Hb1⟩
  ihave Hr := (record m K (after c) 2) $$ HR
  icases Hr with ⟨#HI2, #Hb2⟩
  unfold leaving landing
  iapply (Rounds.wp_send_pointsTo 𝒱₀ EH (sched m) (c : Thread nD τ) none (κ₁ := K (c, 1)) (κ₂ := K (after c, 2)) (r₁ := 0) (r₂ := 0) (d₁ := ()) (d₂ := ())
      (fd := f) (mem_duties m c 1) (mem_duties m (after c) 2) () () N rfl (amount_cell m c 1) (amount_cell m (after c) 2)
      0 (O₀ := debt c) (by rw [zero_add]; rfl)
      (Entails.of_eq (payload_cell m c 1).symm)
      (by
        rw [write_landing]
        refine Entails.of_eq ((payload_cell m (after c) 2).trans ?_).symm
        unfold gain landing; rw [before_after]))
  isplitr; · iexact HI1
  isplitr; · iexact HI2
  isplitl [Hs]; · iexact Hs
  isplitl [Hl]; · iexact Hl
  isplitl [HO]; · iexact HO
  isplitl [Ht1]; · iexact Ht1
  isplitr; · iexact Hb1
  isplitl [Ht2]; · iexact Ht2
  iexact Hb2

/-! ## The body -/

/-- The kernel branches on being device 0. -/
theorem branch_iff (c : Dev nD) :
    Scalar.cmpi .ne (Scalar.extui (Scalar.cmpi .eq (Scalar.remsi (Scalar.divsi (Dev.word c) 1#32) 4#32) 0#32) : BitVec 32) 0#32 = 1#1 ↔ c = 0 := by
  revert c; decide +kernel

theorem zeros : (![0, 0, 0] : Fin 3 → Nat) = fun _ => 0 := funext fun a => by fin_cases a <;> rfl
theorem zeros2 : (![0, 0] : Fin 2 → Nat) = fun _ => 0 := funext fun a => by fin_cases a <;> rfl

/-- The whole of a block. -/
abbrev blockRows : Rect S4x512x256 := Rect.unit (s := S4x512x256) ![0, 0, 0] S4x512x256.size inb_S4x512x256_S4x512x256_0_0_0
/-- The whole of an exchange buffer. -/
abbrev haloRows : Rect S4x3x256 := Rect.unit (s := S4x3x256) ![0, 0, 0] S4x3x256.size inb_S4x3x256_S4x3x256_0_0_0

omit [FloatOps F] in
theorem read_x (f : (cc0_stg0_0 : Ref sig .tc).ty.Contents (Elt F)) :
    xM.view.readAt (Elt F) blockRows.toLoadRect f = f :=
  Memref.readAt_unit_zero (Elt F) cc0_stg0_0 zeros _ f
omit [FloatOps F] in
theorem read_k (f : (cc0_stg1_0 : Ref sig .tc).ty.Contents (Elt F)) :
    kM.view.readAt (Elt F) (Rect.unit (s := S4x256) ![0, 0] S4x256.size inb_S4x256_S4x256_0_0).toLoadRect f = f :=
  Memref.readAt_unit_zero (Elt F) cc0_stg1_0 zeros2 _ f
omit [FloatOps F] in
theorem read_h (f : (cc0_scratch1 : Ref sig .tc).ty.Contents (Elt F)) :
    hM.view.readAt (Elt F) haloRows.toLoadRect f = f :=
  Memref.readAt_unit_zero (Elt F) cc0_scratch1 zeros _ f
omit [FloatOps F] in
theorem write_t (f w : (cc0_scratch0 : Ref sig .tc).ty.Contents (Elt F)) :
    (tM.access haloRows : View sig .tc _ _ _).write (Elt F) f w Finset.univ = w :=
  Memref.write_access_unit_zero_univ (Elt F) cc0_scratch0 zeros _ f w
omit [FloatOps F] in
theorem write_h (f w : (cc0_scratch1 : Ref sig .tc).ty.Contents (Elt F)) :
    (hM.access haloRows : View sig .tc _ _ _).write (Elt F) f w Finset.univ = w :=
  Memref.write_access_unit_zero_univ (Elt F) cc0_scratch1 zeros _ f w
omit [FloatOps F] in
theorem write_o (f w : (cc0_stg2_0 : Ref sig .tc).ty.Contents (Elt F)) :
    (oM.access blockRows : View sig .tc _ _ _).write (Elt F) f w Finset.univ = w :=
  Memref.write_access_unit_zero_univ (Elt F) cc0_stg2_0 zeros _ f w

/-- The branch that puts zeros over what device 0 received leaves, on every device, the rows before the block in the landing
    buffer. -/
theorem wp_settle (c : Dev nD) {hl : hM.view.LoadsAt haloRows.toLoadRect} {hs : (hM.access haloRows).Stores Finset.univ}
    {hm : (Finset.univ : Finset haloRows.shape.Idx) = Finset.univ ∨ ∀ a, haloRows.stride a = 1}
    {α : Type} {Q : α → sProp 𝕄} {next : Prog (TpuEff nD τ sig (Elt F) Λ₀ .tc) α} :
    ((c : Thread nD τ).loc cc0_scratch1 ↦{fullShare} sentAt m (before c))
      ⊢ iprop((((c : Thread nD τ).loc cc0_scratch1 ↦{fullShare} haloAt m c) -∗ wp frame (E₀ (c : Thread nD τ) none) Set.univ next Q)
          -∗ wp frame (E₀ (c : Thread nD τ) none) Set.univ
              (if _ : Scalar.cmpi .ne (Scalar.extui (Scalar.cmpi .eq (Scalar.remsi (Scalar.divsi (Dev.word c) 1#32) 4#32) 0#32) : BitVec 32) 0#32 = 1#1 then
                .op (.load hM haloRows.toLoadRect hl) fun _ => .op (.store hM haloRows (k0_pay1 (F := F)) Finset.univ hs hm) fun _ => next
              else next) Q) := by
  iintro Hl Hk
  by_cases h : c = 0
  · rw [dif_pos ((branch_iff c).2 h)]
    iapply (wp_load 𝒱₀ (c : Thread nD τ) none Set.univ (m := hM) (Finset.subset_univ _)) $$ Hl; iintro Hl
    iapply (wp_store 𝒱₀ (c : Thread nD τ) none Set.univ (m := hM) (r := haloRows) (Mk := Finset.univ) (Finset.subset_univ _)) $$ Hl; iintro Hl
    rw [write_h]
    iapply Hk
    rw [show haloAt m c = k0_pay1 from if_pos h]; iexact Hl
  · rw [dif_neg fun e => h ((branch_iff c).1 e)]
    iapply Hk
    rw [show haloAt m c = sentAt m (before c) from if_neg h]; iexact Hl

/-- A staging buffer of device `c` at contents `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Before the body, at the one grid point. -/
def bodyPre (c : Dev nD) : sProp 𝕄 :=
  iprop(entering m c ∗ (dats m 0 c).owesAt () t0_0.castSucc
    ∗ (∃ d, held c cc0_stg0_0 ((dats m 0 c).before (0 : Fin 3) t0_0 d))
    ∗ (∃ d, held c cc0_stg1_0 ((dats m 0 c).before (1 : Fin 3) t0_0 d))
    ∗ (∃ d, held c cc0_stg2_0 ((dats m 0 c).before (2 : Fin 3) t0_0 d)))
/-- After it. -/
def bodyPost (c : Dev nD) : sProp 𝕄 :=
  iprop(left c ∗ (dats m 0 c).owesAt () t0_0.succ ∗ held c cc0_stg0_0 (xAt m c) ∗ held c cc0_stg1_0 (kAt m c) ∗ held c cc0_stg2_0 (outAt m c))

set_option maxHeartbeats 1600000 in
/-- One device's body, from `bodyPre` to `bodyPost`. -/
theorem body_runs (c : Dev nD) :
    bodyPre m c ⊢ wp frame (E₀ (c : Thread nD τ) none) Set.univ
      (cc0_body (Memref.whole cc0_stg0_0) (Memref.isWhole_whole _) (Memref.whole cc0_stg1_0) (Memref.isWhole_whole _) (Memref.whole cc0_stg2_0) (Memref.isWhole_whole _)
        (Memref.whole cc0_scratch0) (Memref.isWhole_whole _) (Memref.whole cc0_scratch1) (Memref.isWhole_whole _) cc0_scratch2 cc0_scratch3)
      (fun _ => bodyPost m c) := by
  rw [cc0_body_eq_skeleton]; unfold cc0_body_skel
  rw [k0_part1_eq_skeleton, k0_part2_eq_skeleton]; unfold k0_part1_skel k0_part2_skel
  simp only [semSignalWord, semWaitWord, storeSubelements, Prog.lift, Prog.bind_op, Prog.bind_ret, Prog.pure_eq_ret, wp_deviceId]
  unfold bodyPre entering start spare part places duties
  iintro ⟨⟨⟨⟨%K, #HR, ⟨Ha0, Ha1, Ha2⟩, Ht0, Ht1, Ht2⟩, Hc0, Hc2, #Hlev⟩, ⟨%f0, Hs⟩, Hl⟩, Ho, ⟨%d0, %g0, %h0, Hx⟩, ⟨%d1, %g1, %h1, Hkk⟩, ⟨%d2, %g2, %h2, Hout⟩⟩
  have hx : g0 = xAt m c := by rw [h0]; unfold Dat.before; rw [if_pos (fetch0_0 t0_0)]; rfl
  have hk : g1 = kAt m c := by rw [h1]; unfold Dat.before; rw [if_pos (fetch0_1 t0_0)]; rfl
  subst hx hk
  unfold Dat.owesAt Pipeline.owesWithin
  icases Ho with ⟨%W, %hW, HO⟩
  rw [show (dats m 0 c).owed t0_0.castSucc = debts c from rfl]
  -- the landing buffer is lent to the preceding device
  iapply (wp_invite m K c _ (signalled c) (by decide)) $$ [HO Ht0 Hl]
  · isplitr; · iexact HR
    isplitl [HO]; · iexact HO
    isplitl [Ht0] <;> iassumption
  iintro HO
  -- the following device lends its own
  iapply (wp_collect m K c 0 (by decide) (wpE_semWait_eq 𝒱₀ (c : Thread nD τ) none Set.univ)) $$ [Hc0 HO Ha0]
  · isplitr; · iexact HR
    isplitl [Hc0]; · iexact Hc0
    isplitl [HO]; · iexact HO
    isplitr; · iapply (mayWait_barrier c); iexact Hlev
    iexact Ha0
  iintro ⟨HO, Hz0, Hg⟩
  unfold gain
  icases Hg with ⟨⟨%fn, Hn⟩, -⟩
  -- the last rows are put in the sending buffer
  iapply (wp_load 𝒱₀ (c : Thread nD τ) none Set.univ (m := xM) (Finset.subset_univ _)) $$ Hx; iintro Hx
  ihave Hs' := (Entails.of_eq (leaving_eq c f0)) $$ Hs
  iapply (wp_load 𝒱₀ (c : Thread nD τ) none Set.univ (m := tM) (Finset.subset_univ _)) $$ Hs'; iintro Hs
  iapply (wp_store 𝒱₀ (c : Thread nD τ) none Set.univ (m := tM) (r := haloRows) (Mk := Finset.univ) (Finset.subset_univ _)) $$ Hs; iintro Hs
  rw [write_t]
  ihave Hs' := (show ((tM.access haloRows).loc (c : Thread nD τ) ↦{fullShare} k0_pay4 (k0_pay3 (xM.view.readAt (Elt F) lastRows.toLoadRect (xAt m c))) : sProp 𝕄)
    ⊢ leaving c (sentAt m c) from Entails.of_eq (leaving_eq c (sentAt m c)).symm) $$ Hs
  -- and sent
  iapply (wp_send_rows m K c _ (addressed c) fn) $$ [Hs' Hn HO Ht1 Ht2]
  · isplitr; · iexact HR
    isplitl [Hs']; · iexact Hs'
    isplitl [Hn]; · iexact Hn
    isplitl [HO]; · iexact HO
    isplitl [Ht1] <;> iassumption
  iintro ⟨Hc1, HO⟩
  -- the whole block from the block alone
  iapply (wp_load 𝒱₀ (c : Thread nD τ) none Set.univ (m := xM) (Finset.subset_univ _)) $$ Hx; iintro Hx
  rw [read_x]
  iapply (wp_load 𝒱₀ (c : Thread nD τ) none Set.univ (m := kM) (Finset.subset_univ _)) $$ Hkk; iintro Hkk
  rw [read_k]
  iapply (wp_load 𝒱₀ (c : Thread nD τ) none Set.univ (m := oM) (Finset.subset_univ _)) $$ Hout; iintro Hout
  iapply (wp_store 𝒱₀ (c : Thread nD τ) none Set.univ (m := oM) (r := blockRows) (Mk := Finset.univ) (Finset.subset_univ _)) $$ Hout; iintro Hout
  rw [write_o]
  -- the preceding block's last rows have arrived
  iapply (wp_collect m K c 2 rfl (wpE_waitDma2_eq 𝒱₀ (c : Thread nD τ) none Set.univ)) $$ [Hc2 HO Ha2]
  · isplitr; · iexact HR
    isplitl [Hc2]; · iexact Hc2
    isplitl [HO]; · iexact HO
    isplitr; · rw [MayWait_zero]; iempintro
    iexact Ha2
  iintro ⟨HO, Hz2, Hg⟩
  unfold gain
  ihave Hl := (Entails.of_eq (landing_eq c _)) $$ Hg
  iapply (wp_settle m c) $$ Hl; iintro Hl
  -- the first three rows again, with it
  iapply (wp_load 𝒱₀ (c : Thread nD τ) none Set.univ (m := hM) (Finset.subset_univ _)) $$ Hl; iintro Hl
  rw [read_h]
  iapply (wp_load 𝒱₀ (c : Thread nD τ) none Set.univ (m := oM) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := headRows) (Mk := Finset.univ) (Finset.subset_univ _)) $$ Hout; iintro Hout
  -- and the sending buffer comes back
  iapply (wp_collect m K c 1 (n := tM.view.dmaCredit) rfl (wpE_waitDma2_eq 𝒱₀ (c : Thread nD τ) none Set.univ)) $$ [Hc1 HO Ha1]
  · isplitr; · iexact HR
    isplitl [Hc1]; · iexact Hc1
    isplitl [HO]; · iexact HO
    isplitr; · rw [MayWait_zero]; iempintro
    iexact Ha1
  iintro ⟨HO, Hz1, Hg⟩
  unfold gain
  rw [wp_ret]; imodintro
  unfold bodyPost left spare Dat.owesAt Pipeline.owesWithin
  rw [show (dats m 0 c).owed t0_0.succ = 0 from rfl]
  isplitl [Hg Hl Hz0 Hz1 Hz2]
  · isplitl [Hg Hl]
    · isplitl [Hg]; · iexists _; iexact Hg
      iexists (haloAt m c); rw [landing_eq]; iexact Hl
    isplitl [Hz0]; · iexact Hz0
    isplitl [Hz1] <;> iassumption
  isplitl [HO]
  · iexists (insert (semAt 1, ()) (insert (semAt 2, ()) (insert (semAt 0, ()) W)))
    isplitr; · ipureintro; exact fun _ _ => Or.inl trivial
    iexact HO
  isplitl [Hx]
  · iexists (xAt m c); isplitr; · (ipureintro; rfl)
    iexact Hx
  isplitl [Hkk]
  · iexists (kAt m c); isplitr; · (ipureintro; rfl)
    iexact Hkk
  iexists (outAt m c); isplitr; · (ipureintro; rfl)
  iexact Hout

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

set_option maxRecDepth 4000 in
/-- The body meets what the pipeline asks of it on every device. -/
theorem body_obligation (c : Dev nD) : BodyObligation (dats m 0 c) (defs₀ (F := F)) 𝒱₀ () Set.univ := fun t => by
  rw [fin_N0 t, bigSep_W0, bigSep_W0]
  simp only [owns_whole]
  exact body_runs m c

end Cert.HaloProof

end
-- ==== Proof.Launch.lean ====
/-
# The launch

The four devices' cells are allocated at once, their duties dealt to the devices that pay them, and the bodies run under the
library's launch theorem: every execution ends, with each window's array at the contents the pipeline writes back and every
semaphore at zero.
-/
module

public import proofs.«01_k».proof.Proof.Body
public import Idealize.ShloMosaic.Lib.Pipeline.CollectiveSegs

@[expose] public section

noncomputable section

namespace Cert.HaloProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: memory `m`, every counter zero. -/
abbrev s₀ : MemSt nD τ sig (Elt F) := ⟨m, fun _ => 0, ρ⟩

/-! ## Cells and tokens -/

/-- The kernel's own semaphores: send and receive. -/
abbrev own : Fin 2 → SemLoc sig := fun | 0 => semAt 1 | 1 => semAt 2

theorem ownFacts : Pipeline.OwnSemFacts cfg0.spec own := by decide

/-- The twelve cells. -/
def allCells : Finset (GSem nD τ sig) := Finset.univ.map ⟨_, cell_injective⟩

/-- The one duty of a cell, as a token. -/
def tokenOf (ck : Dev nD × Fin 3) : GSem nD τ sig × ℕ × Unit := (cell ck.1 ck.2, 0, ())
theorem tokenOf_injective : Function.Injective tokenOf := fun _ _ h => cell_injective (congrArg Prod.fst h)
/-- The twelve duties. -/
def allTokens : Finset (GSem nD τ sig × ℕ × Unit) := Finset.univ.map ⟨_, tokenOf_injective⟩

/-- The ghost state at launch: the pipeline's cells and the exchange's. -/
def u₀ : UU := (initOf (Pipeline.cells cfgs cellOf_inj) (Pipeline.launchToks cfgs cellOf_inj), initOf allCells allTokens)

/-- What each device is dealt at launch for its own three cells. -/
def dealt (c : Dev nD) : sProp 𝕄 :=
  bigSep Finset.univ fun k : Fin 3 =>
    iprop(roundState EH (sched m) (cell c k) 0 ∗ reached EH (cell c k) 0 ∗ atPos EH (cell c k) 0 ∅ 0 ∗ dutyTok EH (cell c k) 0 ())

omit [FloatOps F] in
/-- The exchange's share of the ghost state is what the devices are dealt. -/
theorem deal : BI.own (EH (initOf allCells allTokens)) ⊢ (|==> bigSep Finset.univ (dealt m) : sProp 𝕄) := by
  have hcells (Φ : GSem nD τ sig → sProp 𝕄) : bigSep allCells Φ = bigSep Finset.univ fun ck : Dev nD × Fin 3 => Φ (cell ck.1 ck.2) := by
    unfold allCells; rw [bigSep_map]; rfl
  have htoks : bigSep allTokens (fun x => (dutyTok EH x.1 x.2.1 x.2.2 : sProp 𝕄)) = bigSep Finset.univ fun ck : Dev nD × Fin 3 => dutyTok EH (cell ck.1 ck.2) 0 () := by
    unfold allTokens; rw [bigSep_map]; rfl
  have hdealt : bigSep Finset.univ (dealt (F := F) m) = bigSep Finset.univ fun ck : Dev nD × Fin 3 =>
      iprop(roundState EH (sched m) (cell ck.1 ck.2) 0 ∗ reached EH (cell ck.1 ck.2) 0 ∗ atPos EH (cell ck.1 ck.2) 0 ∅ 0 ∗ dutyTok EH (cell ck.1 ck.2) 0 ()) := by
    rw [bigSep_univ_prod]; rfl
  rw [hdealt, bigSep_sep', bigSep_sep', bigSep_sep', ← htoks, ← hcells (fun g => roundState EH (sched m) g 0), ← hcells (fun g => reached EH g 0),
    ← hcells (fun g => atPos EH g 0 ∅ 0)]
  exact Rounds.fund EH (sched m) allCells allTokens

/-! ## The devices' parts -/

omit [FloatOps F] in
theorem three (Φ : Fin 3 → sProp 𝕄) : bigSep Finset.univ Φ = iprop(Φ 0 ∗ Φ 1 ∗ Φ 2) :=
  bigSep_univ_eq_bigSepL [0, 1, 2] (by decide) (by decide) Φ

omit [FloatOps F] in
theorem ownSems_eq (c : Dev nD) : (Pipeline.ownSems0 (Ix := Unit) (Name := ℕ) (U := UU) (Lvl := ℕ) (Val := Elt F) (τ := τ) own c : sProp 𝕄)
    = iprop(semVal (cell c 1) 0 ∗ semVal (cell c 2) 0) := by
  rw [Pipeline.ownSems0_eq_of_list c own [0, 1] (by decide) (by decide)]; rfl
omit [FloatOps F] in
theorem unscopedSems_eq (c : Dev nD) : (unscopedSems0 c : sProp 𝕄) = semVal (cell c 0) 0 := by
  unfold unscopedSems0; rw [bigSep_eq_bigSepL_of_eq [semAt 0] (by decide) (by decide)]; rfl

omit [FloatOps F] in
/-- A device's semaphores at zero and what it was dealt, taken cell by cell. -/
theorem gather (c : Dev nD) :
    iprop(Pipeline.ownSems0 (Ix := Unit) (Name := ℕ) (U := UU) (Lvl := ℕ) (Val := Elt F) (τ := τ) own c ∗ unscopedSems0 c ∗ dealt m c)
      ⊢ (bigSep Finset.univ fun k : Fin 3 => iprop((semVal (cell c k) 0 ∗ roundState EH (sched m) (cell c k) 0)
          ∗ reached EH (cell c k) 0 ∗ atPos EH (cell c k) 0 ∅ 0 ∗ dutyTok EH (cell c k) 0 ()) : sProp 𝕄) := by
  unfold dealt
  rw [ownSems_eq, unscopedSems_eq, three, three]
  iintro ⟨⟨H1, H2⟩, H0, ⟨S0, R0⟩, ⟨S1, R1⟩, ⟨S2, R2⟩⟩
  isplitl [H0 S0 R0]
  · isplitr [R0]
    · isplitl [H0] <;> iassumption
    iexact R0
  isplitl [H1 S1 R1]
  · isplitr [R1]
    · isplitl [H1] <;> iassumption
    iexact R1
  isplitr [R2]
  · isplitl [H2] <;> iassumption
  iexact R2

omit [FloatOps F] in
/-- The duties of the devices' own cells are, all together, the duties the devices pay: a barrier's is paid by the device
    after it, a receive cell's by the device before it. -/
theorem hand_out : (bigSep Finset.univ fun c : Dev nD => bigSep Finset.univ fun k : Fin 3 => (dutyTok EH (cell c k) 0 () : sProp 𝕄))
    ⊢ bigSep Finset.univ fun c : Dev nD => duties c := by
  unfold duties
  simp only [three]
  rw [bigSep_sep', bigSep_sep', bigSep_sep', bigSep_sep',
    bigSep_univ_equiv forward.symm (fun c : Dev nD => (dutyTok EH (cell c 0) 0 () : sProp 𝕄)),
    bigSep_univ_equiv forward (fun c : Dev nD => (dutyTok EH (cell c 2) 0 () : sProp 𝕄))]
  exact BI.Entails.refl _

omit [FloatOps F] in
/-- All the devices' semaphores and dealt state become, in one step, their parts in the exchange. -/
theorem set_up :
    (bigSep Finset.univ fun c => iprop(Pipeline.ownSems0 (Ix := Unit) (Name := ℕ) (U := UU) (Lvl := ℕ) (Val := Elt F) (τ := τ) own c ∗ unscopedSems0 c ∗ dealt m c) : sProp 𝕄)
      ⊢ |={Set.univ}=> bigSep Finset.univ (part m) := by
  refine (bigSep_mono fun c _ => gather m c).trans ?_
  simp only [bigSep_sep' (Finset.univ : Finset (Fin 3))]
  rw [bigSep_sep', bigSep_sep', bigSep_sep', bigSep_sep', ← bigSep_sep' Finset.univ (fun c : Dev nD => bigSep Finset.univ fun k : Fin 3 => (semVal (cell c k) 0 : sProp 𝕄)),
    ← bigSep_congr (s := Finset.univ) (fun (c : Dev nD) _ => bigSep_sep' Finset.univ (fun k : Fin 3 => (semVal (cell c k) 0 : sProp 𝕄)) (fun k => roundState EH (sched m) (cell c k) 0)),
    ← bigSep_univ_prod (fun ck : Dev nD × Fin 3 => (iprop(semVal (cell ck.1 ck.2) 0 ∗ roundState EH (sched m) (cell ck.1 ck.2) 0) : sProp 𝕄)),
    ← bigSep_univ_prod (fun ck : Dev nD × Fin 3 => (reached EH (cell ck.1 ck.2) 0 : sProp 𝕄))]
  refine (show (_ : sProp 𝕄) ⊢ _ from ?_)
  iintro ⟨Hs, #HR, Hat, Htok⟩
  imod (show (bigSep Finset.univ fun ck : Dev nD × Fin 3 => iprop(semVal (cell ck.1 ck.2) 0 ∗ roundState EH (sched m) (cell ck.1 ck.2) 0))
      ⊢ (|={Set.univ}=> bigSep Finset.univ fun ck : Dev nD × Fin 3 => iprop(∃ κ : ℕ, cellInv EH (sched m) κ (cell ck.1 ck.2)) : sProp 𝕄) from
        (bigSep_mono fun ck _ => (Rounds.body_intro EH (sched m) (cell ck.1 ck.2)).trans inv_alloc).trans (bigSep_fupd _ _)) $$ Hs with HI
  ihave HK := (BI.bigSep_exists_pi Finset.univ (fun (ck : Dev nD × Fin 3) (κ : ℕ) => (cellInv EH (sched m) κ (cell ck.1 ck.2) : sProp 𝕄))) $$ HI
  icases HK with ⟨%K, #HI⟩
  ihave Hpay := (hand_out (F := F)) $$ Htok
  imodintro
  have each : iprop(records (F := F) m K ∗ bigSep Finset.univ fun c : Dev nD => iprop(places (F := F) c ∗ duties c)) ⊢ bigSep Finset.univ (part m) :=
    (sep_mono_left (BI.bigSep_of_persistent Finset.univ (records m K))).trans (by
      rw [← bigSep_sep']
      exact bigSep_mono fun c _ => (show iprop(records (F := F) m K ∗ places c ∗ duties c) ⊢ part m c by unfold part; iintro H; iexists K; iexact H))
  iapply each
  isplitr
  · unfold records; rw [bigSep_sep']
    isplitr; · iexact HI
    iexact HR
  · rw [bigSep_sep']
    isplitl [Hat]
    · iapply (Entails.of_eq (bigSep_congr (s := Finset.univ) fun (c : Dev nD) _ =>
        show (bigSep Finset.univ fun k : Fin 3 => (atPos EH (cell c k) 0 ∅ 0 : sProp 𝕄)) = places c from three _))
      iexact Hat
    iexact Hpay

/-! ## The credit at launch -/

omit [FloatOps F] in
theorem cell_eq_iff {c d : Dev nD} {k l : Fin 3} : cell c k = cell d l ↔ c = d ∧ k = l :=
  ⟨fun h => Prod.mk.inj (cell_injective (a₁ := (c, k)) (a₂ := (d, l)) h), fun h => by rw [h.1, h.2]⟩

omit [FloatOps F] in
/-- The barrier of device `c` is owed one unit, by the device after it … -/
theorem owed_barrier (d c : Dev nD) : debts d (cell c 0) () = if d = after c then 1 else 0 := by
  unfold debts debt
  rw [Pi.add_apply, Finsupp.add_apply, tallyAt_apply, tallyAt_apply, if_neg (fun h => absurd (cell_eq_iff.mp h.1).2 (by decide)), Nat.zero_add]
  by_cases h : d = after c
  · subst h; rw [before_after, if_pos ⟨rfl, rfl⟩, if_pos rfl]
  · rw [if_neg h, if_neg fun e => h (by rw [(cell_eq_iff.mp e.1).1, after_before])]

omit [FloatOps F] in
/-- … and its receive cell the rows' credit, by the device before it. -/
theorem owed_receive (d c : Dev nD) : debts d (cell c 2) () = if d = before c then N else 0 := by
  unfold debts debt
  rw [Pi.add_apply, Finsupp.add_apply, tallyAt_apply, tallyAt_apply, if_neg (fun h : _ ∧ _ => absurd (cell_eq_iff.mp h.1).2 (by decide)) (t := 1), Nat.add_zero]
  by_cases h : d = before c
  · subst h; rw [after_before, if_pos ⟨rfl, rfl⟩, if_pos rfl]
  · rw [if_neg h, if_neg fun e => h (by rw [(cell_eq_iff.mp e.1).1, before_after])]

omit [FloatOps F] in
theorem credit_barrier (c : Dev nD) :
    tallyOn (cell c 0) (launchCredit (Pipeline.owing debts) 0 (cell c 0)) = (tallyAt (cell c 0) () 1 : CellTallies nD τ sig Unit) := by
  unfold tallyAt; refine congrArg _ (Finsupp.ext fun u => ?_); cases u
  rw [Pipeline.launchCredit_owing, Finsupp.single_eq_same, Finset.sum_congr rfl fun d _ => owed_barrier d c,
    Finset.sum_ite_eq' Finset.univ (after c) fun _ => 1, if_pos (Finset.mem_univ _)]

omit [FloatOps F] in
theorem credit_receive (c : Dev nD) :
    tallyOn (cell c 2) (launchCredit (Pipeline.owing debts) 0 (cell c 2)) = (tallyAt (cell c 2) () N : CellTallies nD τ sig Unit) := by
  unfold tallyAt; refine congrArg _ (Finsupp.ext fun u => ?_); cases u
  rw [Pipeline.launchCredit_owing, Finsupp.single_eq_same, Finset.sum_congr rfl fun d _ => owed_receive d c,
    Finset.sum_ite_eq' Finset.univ (before c) fun _ => N, if_pos (Finset.mem_univ _)]

omit [FloatOps F] in
/-- The credit each device holds at launch: for its barrier and for its receive cell. -/
theorem credits (c : Dev nD) :
    (Pipeline.launchCred debts c : sProp 𝕄) ⊢ iprop(cred (tallyAt (cell c 0) () 1) ∗ cred (tallyAt (cell c 2) () N)) := by
  unfold Pipeline.launchCred
  rw [bigSep_univ_at _ (semAt 0), credit_barrier]
  refine sep_mono_right ?_
  rw [← credit_receive]
  exact bigSep_elim (Finset.mem_erase.mpr ⟨fun h => absurd (semAt_injective (a₁ := 2) (a₂ := 0) h) (by decide), Finset.mem_univ _⟩)

/-! ## The run -/

omit [FloatOps F] in
theorem begin_body (c : Dev nD) :
    iprop(Pipeline.unscopedRestP Pipeline.Prefetch.none cfg0.spec c (fun b => m ((c : Thread nD τ).loc b)) ∗ levAts L lv
        ∗ Pipeline.launchCred debts c ∗ prngReg c (ρ c) ∗ part m c)
      ⊢ |={Set.univ}=> iprop(start m c ∗ emp) := by
  iintro ⟨-, Hlev, Hcr, -, HG⟩
  ihave Hc := (credits (F := F) c) $$ Hcr
  icases Hc with ⟨H0, H2⟩
  imodintro
  unfold start
  isplitl
  · isplitl [HG]; · iexact HG
    isplitl [H0]; · iexact H0
    isplitl [H2] <;> iassumption
  · iempintro

theorem enter_body (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = entering m c from rfl, scopedRest0_eq]
  unfold entering spare
  iintro ⟨Hs, -, ⟨%f, Ht⟩, ⟨%g, Hl⟩⟩
  isplitl [Hs]; · iexact Hs
  isplitl [Ht]
  · iexists f; rw [leaving_eq]; iexact Ht
  iexists g; rw [landing_eq]; iexact Hl

theorem leave_body (c : Dev nD) :
    (dats m 0 c).Φ (Fin.last cfg0.N) ⊢ iprop(unscopedSems0 c ∗ Pipeline.ownSems0 own c ∗ Pipeline.scopedRest cfg0.spec c) := by
  rw [show (dats m 0 c).Φ (Fin.last cfg0.N) = left c from rfl, scopedRest0_eq, ownSems_eq, unscopedSems_eq]
  unfold left spare
  iintro ⟨⟨⟨%f, Ht⟩, ⟨%g, Hl⟩⟩, H0, H1, H2⟩
  isplitl [H0]; · iexact H0
  isplitl [H1 H2]
  · isplitl [H1] <;> iassumption
  isplitl [Ht]
  · iexists f; rw [← leaving_eq]; iexact Ht
  iexists g; rw [← landing_eq]; iexact Hl

theorem stage_waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_other c _ (by fin_cases w <;> fin_cases s <;> decide)
    · show (levAts L lv : sProp 𝕄) ⊢ MayWait _ _ () 0
      rw [MayWait_zero]; iintro -; iempintro

/-- What window `w`'s array holds on device `c` after the run. -/
def finalAt (c : Dev nD) (w : Fin cfg0.W) : Buf (Elt F) ((cfg0.win w).arr.view.loc (c : Thread nD τ)) := (dats m 0 c).arrAt w cfg0.N

set_option maxRecDepth 8000 in
/-- From any memory with zero counters, every weakly fair execution of the four devices' programs ends, and every final state
    has each window's array at `finalAt` and every semaphore counter at zero. -/
theorem run_main : θ_run defs (onTc (τ := τ) (main (F := F))) (s₀ m ρ)
    (fun r => (∀ c : Dev nD, ∀ w : Fin cfg0.W, r.2.mem ((cfg0.win w).arr.view.loc (c : Thread nD τ)) = finalAt m c w) ∧ r.2.sem = fun _ => 0) :=
  Pipeline.θ_run_region_owing_glob_pf (fun p => (cfgs p).toPCfg) (fun p => (cfgs p).toPCfg_adm) (dats m) () cellOf_inj (0 : Fin 1)
    winFacts0.to₀ ownFacts (Pipeline.PreFacts.none _) EP defs₀ 𝒱₀ m ρ main
    (hmain := fun _ => rfl)
    (hbody := body_obligation m) (hne := block_pos0) (harr := arr_whole0) (hstage := stage_whole0)
    (hshare := fun c w => by unfold Dat.share; split <;> rfl)
    (hdistinct := winFacts0.arr_inj)
    (O₀ := debts) (howed₀ := fun _ => rfl) (howedN := fun _ => rfl)
    (L := L) (lv := lv) (hL := L_other) (hwaits := stage_waits m)
    (G := dealt m) (G' := part m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := set_up m)
    (hA := fun _ _ => rfl) (hpf := fun _ k => k.elim0)
    (X := start m) (Y := fun c => unscopedSems0 c) (Z := fun _ => iprop(emp))
    (hX := begin_body m ρ) (hin := enter_body m) (hout := leave_body m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- `x` is left as it was. -/
theorem final_x (c : Dev nD) : finalAt m c (0 : Fin 3) = m ((c : Thread nD τ).loc main_arg0) := (dats m 0 c).arrAt_in (0 : Fin 3) rfl _
/-- The filter is left as it was. -/
theorem final_k (c : Dev nD) : finalAt m c (1 : Fin 3) = m ((c : Thread nD τ).loc main_arg1) := (dats m 0 c).arrAt_in (1 : Fin 3) rfl _

/-- From any memory with zero counters the program ends with both arguments as they were and every counter at zero. -/
theorem run_quiet : θ_run defs (onTc (τ := τ) (main (F := F))) (s₀ m ρ)
    (fun r => (∀ c : Dev nD, r.2.mem ((c : Thread nD τ).loc main_arg0) = m ((c : Thread nD τ).loc main_arg0) ∧
      r.2.mem ((c : Thread nD τ).loc main_arg1) = m ((c : Thread nD τ).loc main_arg1)) ∧ r.2.sem = fun _ => 0) :=
  (θ_run defs _ _).mono (fun _ h => ⟨fun c => ⟨(h.1 c (0 : Fin 3)).trans (final_x m c), (h.1 c (1 : Fin 3)).trans (final_k m c)⟩, h.2⟩)
    (run_main m ρ)

end Cert.HaloProof

end
-- ==== Proof.Values.lean ====
/-
# What the payloads compute, at an index

Over the extended reals a block's convolution at row `r` is the sum of four taps on rows `r … r + 3` of the block
extended by the three rows before it, and the result is its `silu`. This module reads the kernel's block computation and the
reference's whole computation at an index and puts both into that form.
-/
module

public import proofs.«01_k».proof.Proof.Gen.KernelIdeal.Skeleton
public import proofs.«01_k».proof.Proof.Gen.ReferenceIdeal.Run
public import Idealize.ShloMosaic.Lib.Pointwise

@[expose] public section

noncomputable section

namespace Cert.HaloProof

open Cert.KernelIdeal Cert.KernelIdeal.Gen
open Idealize.ShloMosaic Idealize.ShloMosaic.TcCoe

/-! ## Scalars -/

/-- The activation: the reference writes it as this quotient. -/
def silu (a : EReal) : EReal := Ideal.div a (1 + Ideal.exp (-a))

/-- One plus an exponential is not zero. -/
theorem one_add_exp_ne_zero (a : EReal) : 1 + Ideal.exp a ≠ 0 := by
  have h : (0 : EReal) ≤ Ideal.exp a := by
    induction a using EReal.rec with
    | bot => exact le_refl _
    | coe x => exact EReal.coe_nonneg.2 (Real.exp_pos x).le
    | top => exact le_top
  have h1 : (0 : EReal) < 1 + Ideal.exp a := lt_of_lt_of_le zero_lt_one (le_add_of_nonneg_right h)
  exact h1.ne'

/-- The kernel multiplies by the logistic function: the same number. -/
theorem mul_logistic (a : EReal) : a * Ideal.logistic a = silu a := by
  unfold silu Ideal.logistic
  rw [Ideal.div, Ideal.div, if_neg (one_add_exp_ne_zero _), if_neg (one_add_exp_ne_zero _), one_mul]

/-- Four taps `k` on `e` at `r`. -/
def taps (e : ℕ → EReal) (k : Fin 4 → EReal) (r : ℕ) : EReal :=
  e r * k 0 + e (r + 1) * k 1 + e (r + 2) * k 2 + e (r + 3) * k 3

/-- A column `x` of `n` rows with the three rows `h` put before it, and zeros after. -/
def extended {n : ℕ} (h : Fin 3 → EReal) (x : Fin n → EReal) (j : ℕ) : EReal :=
  if hj : j < 3 then h ⟨j, hj⟩ else if hj : j - 3 < n then x ⟨j - 3, hj⟩ else 0

/-- The first three rows of an extended column are the rows put before. -/
theorem extended_lt {n : ℕ} (h : Fin 3 → EReal) (x : Fin n → EReal) (j : ℕ) (hj : j < 3) : extended h x j = h ⟨j, hj⟩ := dif_pos hj

/-- From row 3 on they are the column's. -/
theorem extended_ge {n : ℕ} (h : Fin 3 → EReal) (x : Fin n → EReal) (j : ℕ) (h3 : 3 ≤ j) (hj : j - 3 < n) : extended h x j = x ⟨j - 3, hj⟩ := by
  unfold extended
  rw [dif_neg (by omega), dif_pos hj]

/-- Row `j + 3` of an extended column is row `j` of the column. -/
theorem extended_add {n : ℕ} (h : Fin 3 → EReal) (x : Fin n → EReal) (j : ℕ) (hj : j < n) : extended h x (j + 3) = x ⟨j, hj⟩ :=
  extended_ge h x (j + 3) (by omega) hj

/-! ## The kernel's block -/

/-- The accumulator at an index: the four taps on the block with zeros before it. -/
theorem block_at (x : Vec Ideal S4x512x256 .bf16) (k : Vec Ideal S4x256 .bf16) (b : Fin 4) (r : Fin 512) (l : Fin 256) :
    k0_pay6 x k (ix3 b r l) = taps (extended (fun _ => 0) fun j : Fin 512 => x (ix3 b j l)) (fun t => k (ix2 t l)) r := by
  pointwise [k0_pay6, k0_pay5]
  rw [taps, extended_add _ _ _ r.isLt]
  have e1 : (1 + r.val) = r.val + 1 := Nat.add_comm _ _
  have e2 : (2 + r.val) = r.val + 2 := Nat.add_comm _ _
  simp only [e1, e2, extended, dif_pos (show r.val - 3 < 512 by omega), dif_pos (show r.val + 1 - 3 < 512 by omega), dif_pos (show r.val + 2 - 3 < 512 by omega)]
  abel

/-- The block as first stored. -/
theorem own_at (x : Vec Ideal S4x512x256 .bf16) (k : Vec Ideal S4x256 .bf16) (b : Fin 4) (r : Fin 512) (l : Fin 256) :
    k0_pay7 x k (ix3 b r l) = silu (k0_pay6 x k (ix3 b r l)) := by
  pointwise [k0_pay7]
  exact mul_logistic _

/-- The first three rows computed again, with the rows `h` before the block. -/
theorem head_at (x : Vec Ideal S4x512x256 .bf16) (k : Vec Ideal S4x256 .bf16) (h : Vec Ideal S4x3x256 .bf16) (b : Fin 4) (r : Fin 3) (l : Fin 256) :
    k0_pay2 (k0_pay5 k) (k0_pay6 x k) h (ix3 b r l) =
      silu (taps (extended (fun j => h (ix3 b j l)) fun j : Fin 512 => x (ix3 b j l)) (fun t => k (ix2 t l)) r) := by
  have e := block_at x k b ⟨r, by omega⟩ l
  pointwise [k0_pay2, k0_pay5]
  rw [mul_logistic, e]
  refine congrArg silu ?_
  fin_cases r <;> simp [taps, extended] <;> abel

/-- The zeros used on the first device. -/
theorem zeros_at (b : Fin 4) (r : Fin 3) (l : Fin 256) : k0_pay1 (F := Ideal) (ix3 b r l) = (0 : EReal) := by pointwise [k0_pay1]

/-- What is sent is what was read. -/
theorem sent_eq (h : Vec Ideal S4x3x256 .bf16) : k0_pay4 (k0_pay3 h) = h := by
  funext j
  pointwise [k0_pay4, k0_pay3]

/-! ## The reference -/

/-- The reference's result at an index: the taps on the whole sequence with zeros before it. -/
theorem reference_at (m : (ℓ : Loc Cert.ReferenceIdeal.nD Cert.ReferenceIdeal.τ Cert.ReferenceIdeal.sig) → Buf (Elt Ideal) ℓ)
    (c : Dev Cert.ReferenceIdeal.nD) (b : Fin 4) (r : Fin 2048) (l : Fin 256) :
    Cert.ReferenceIdeal.Value.res_main_v38 (F := Ideal) m c (ix3 b r l) =
      silu (taps (extended (fun _ => 0) fun j : Fin 2048 => m ((c : Thread Cert.ReferenceIdeal.nD Cert.ReferenceIdeal.τ).loc Cert.ReferenceIdeal.main_arg0) (ix3 b j l))
        (fun t => m ((c : Thread Cert.ReferenceIdeal.nD Cert.ReferenceIdeal.τ).loc Cert.ReferenceIdeal.main_arg1) (ix2 t l)) r) := by
  pointwise [Cert.ReferenceIdeal.Value.res_main_v38]
  have e1 : (1 + r.val) = r.val + 1 := Nat.add_comm _ _
  have e2 : (2 + r.val) = r.val + 2 := Nat.add_comm _ _
  rw [silu, taps, extended_add _ _ _ r.isLt]
  simp only [e1, e2, extended, dif_pos (show r.val - 3 < 2048 by omega), dif_pos (show r.val + 1 - 3 < 2048 by omega), dif_pos (show r.val + 2 - 3 < 2048 by omega)]

end Cert.HaloProof

end
-- ==== Proof.Equation.lean ====
/-
# The kernel's blocks are the reference's

The array each device ends with is its block as the body left it; at every index that block is the activation of four taps
on the device's rows with the rows before them, and those rows are the preceding device's last three, or zeros on device 0.
When the devices hold the four blocks of one sequence these are rows of that sequence extended by three zero rows, so the
block is the reference's.
-/
module

public import proofs.«01_k».proof.Proof.Launch
public import proofs.«01_k».proof.Proof.Values
public import Idealize.ShloMosaic.Lib.Layout
public import Idealize.ShloMosaic.Lib.Pipeline.Value

@[expose] public section

noncomputable section

namespace Cert.HaloProof

open Cert.KernelIdeal Cert.KernelIdeal.Gen
open Idealize.ShloMosaic Idealize.ShloMosaic.TcCoe

/-! ## Whole windows -/

section Windows

variable {F : FTy → Type} [FloatOps F] (m : (ℓ : Loc nD τ sig) → Buf (Elt F) ℓ)

/-- The staged block is the argument. -/
theorem x_eq (c : Dev nD) : xAt m c = m ((c : Thread nD τ).loc main_arg0) := Memref.read_access_unit_zero (Elt F) main_arg0 (by decide) _ _

/-- The staged filter is the argument. -/
theorem k_eq (c : Dev nD) : kAt m c = m ((c : Thread nD τ).loc main_arg1) := Memref.read_access_unit_zero (Elt F) main_arg1 (by decide) _ _

/-- The result's array is the block the body left. -/
theorem final_o (c : Dev nD) : finalAt m c (2 : Fin 3) = outAt m c := by
  unfold finalAt
  rw [show cfg0.N = t0_0.val + 1 from rfl, (dats m 0 c).arrAt_succ (2 : Fin 3) t0_0]
  rw [show (cfg0.win (2 : Fin 3)).flush t0_0 = true from by decide, if_pos rfl]
  exact Memref.write_access_unit_zero_univ (Elt F) main_v1 (by decide) _ _ _

end Windows

/-! ## The block at an index -/

variable (m : (ℓ : Loc nD τ sig) → Buf (Elt Ideal) ℓ)

/-- Reading the last three rows of a block reads rows 509 and on. -/
theorem last_at (f : Vec Ideal S4x512x256 .bf16) (b : Fin 4) (j : Fin 3) (l : Fin 256) :
    xM.view.readAt (Elt Ideal) lastRows.toLoadRect f (ix3 b j l) = f (ix3 b ⟨509 + j.val, by omega⟩ l) :=
  congrArg f (funext fun a => match a with
    | (0 : Fin 3) => Fin.ext (by show 0 + 1 * b.val = b.val; omega)
    | (1 : Fin 3) => Fin.ext (by show 509 + 1 * j.val = 509 + j.val; omega)
    | (2 : Fin 3) => Fin.ext (by show 0 + 1 * l.val = l.val; omega))

/-- Reading the first four rows of a block reads them. -/
theorem first_at (f : Vec Ideal S4x512x256 .bf16) (b : Fin 4) (j : Fin 4) (l : Fin 256) :
    oM.view.readAt (Elt Ideal) headRows.toLoadRect f (ix3 b j l) = f (ix3 b ⟨j.val, by omega⟩ l) :=
  congrArg f (funext fun a => match a with
    | (0 : Fin 3) => Fin.ext (by show 0 + 1 * b.val = b.val; omega)
    | (1 : Fin 3) => Fin.ext (by show 0 + 1 * j.val = j.val; omega)
    | (2 : Fin 3) => Fin.ext (by show 0 + 1 * l.val = l.val; omega))

/-- What device `c` uses as the row `j` before its block. -/
theorem halo_at (c : Dev nD) (b : Fin 4) (j : Fin 3) (l : Fin 256) :
    haloAt m c (ix3 b j l) = if c = 0 then (0 : EReal) else xAt m (before c) (ix3 b ⟨509 + j.val, by omega⟩ l) := by
  unfold haloAt
  split
  · exact zeros_at b j l
  · rw [sentAt, sent_eq]
    exact last_at _ b j l

/-- Rows 0, 1, 2 of the result are the rows computed again; the others are as first stored. -/
theorem out_split (c : Dev nD) (b : Fin 4) (r : Fin 512) (l : Fin 256) :
    outAt m c (ix3 b r l) = if h : r.val < 3 then headAt m c (ix3 b ⟨r.val, h⟩ l) else ownAt m c (ix3 b r l) := by
  have e : outAt m c = updateSlice (s := S4x512x256) (u := S4x4x256) (ownAt m c)
      (updateSlice (oM.view.readAt (Elt Ideal) headRows.toLoadRect (ownAt m c)) (headAt m c) ![0, 0, 0] slices_S4x4x256_S4x3x256_0_0_0) ![0, 0, 0]
      ⟨rfl, inb_S4x512x256_S4x4x256_0_0_0⟩ := View.write_whole_slice_unit cc0_stg2_0 _ _ _ _ _
  rw [e]
  pointwise []
  by_cases h3 : r.val < 3
  · rw [dif_pos (by omega : r.val < 4), dif_pos h3, dif_pos h3]
  · rw [dif_neg h3]
    split
    · next h4 => exact first_at (ownAt m c) b ⟨r.val, h4⟩ l
    · rfl

/-- The result at an index, as taps on the extended column. -/
theorem out_at (c : Dev nD) (b : Fin 4) (r : Fin 512) (l : Fin 256) :
    outAt m c (ix3 b r l) =
      silu (taps (extended (fun j => haloAt m c (ix3 b j l)) fun j : Fin 512 => xAt m c (ix3 b j l)) (fun t => kAt m c (ix2 t l)) r) := by
  rw [out_split]
  split
  · next h => exact head_at _ _ _ b ⟨r.val, h⟩ l
  · next h =>
    rw [ownAt, own_at, block_at]
    have e : ∀ j, 3 ≤ j → j - 3 < 512 → extended (fun _ => 0) (fun j : Fin 512 => xAt m c (ix3 b j l)) j =
        extended (fun j => haloAt m c (ix3 b j l)) (fun j : Fin 512 => xAt m c (ix3 b j l)) j := fun j h3 hj => by
      rw [extended_ge _ _ j h3 hj, extended_ge _ _ j h3 hj]
    have hr := r.isLt
    rw [taps, taps, e _ (by omega) (by omega), e _ (by omega) (by omega), e _ (by omega) (by omega), e _ (by omega) (by omega)]

/-! ## The equation -/

/-- When the devices hold the blocks of `X`, device `c`'s extended column is `X`'s from row `512 c` on. -/
theorem column_eq (X : Vec Ideal Cert.ReferenceIdeal.S4x2048x256 .bf16)
    (hX : ∀ c : Dev nD, xAt m c = Layout.block ⟨3, ![4, 512, 256]⟩ ⟨3, ![4, 2048, 256]⟩ 1 4 c X)
    (c : Dev nD) (b : Fin 4) (l : Fin 256) (j : ℕ) (hj : j < 515) :
    extended (fun j => haloAt m c (ix3 b j l)) (fun j : Fin 512 => xAt m c (ix3 b j l)) j =
      extended (fun _ => 0) (fun j : Fin 2048 => X (ix3 b j l)) (512 * c.val + j) := by
  have hc : c.val < 4 := c.isLt
  have hblk : ∀ (d : Dev nD) (r : Fin 512), xAt m d (ix3 b r l) = X (ix3 b ⟨512 * d.val + r.val, by have : d.val < 4 := d.isLt; omega⟩ l) := fun d r => by
    rw [hX d, Layout.block_apply]
    refine congrArg X (funext fun a => ?_)
    match a with
    | (0 : Fin 3) => rfl
    | (1 : Fin 3) => exact Fin.ext (by show d.val * 512 + r.val = 512 * d.val + r.val; omega)
    | (2 : Fin 3) => rfl
  by_cases h3 : j < 3
  · rw [extended_lt _ _ j h3, halo_at]
    by_cases h0 : c = 0
    · rw [if_pos h0, extended_lt _ _ _ (by subst h0; show 512 * 0 + j < 3; omega)]
    · have hpos : 0 < c.val := Nat.pos_of_ne_zero fun h => h0 (Fin.ext h)
      rw [if_neg h0, hblk, extended_ge _ _ _ (by omega) (by omega)]
      refine congrArg X (congrArg (fun r => ix3 b r l) (Fin.ext ?_))
      show 512 * ((c.val + 3) % 4) + (509 + j) = 512 * c.val + j - 3
      omega
  · rw [extended_ge _ _ j (by omega) (by omega), hblk, extended_ge _ _ _ (by omega) (by omega)]
    refine congrArg X (congrArg (fun r => ix3 b r l) (Fin.ext ?_))
    show 512 * c.val + (j - 3) = 512 * c.val + j - 3
    omega

/-- When the devices hold the blocks of the reference's sequence and its filter, device `c`'s result is block `c` of the
    reference's. -/
theorem block_eq (m' : (ℓ : Loc Cert.ReferenceIdeal.nD Cert.ReferenceIdeal.τ Cert.ReferenceIdeal.sig) → Buf (Elt Ideal) ℓ)
    (d : Dev Cert.ReferenceIdeal.nD)
    (hX : ∀ c : Dev nD, m ((c : Thread nD τ).loc main_arg0) = Layout.block ⟨3, ![4, 512, 256]⟩ ⟨3, ![4, 2048, 256]⟩ 1 4 c
      (m' ((d : Thread Cert.ReferenceIdeal.nD Cert.ReferenceIdeal.τ).loc Cert.ReferenceIdeal.main_arg0)))
    (hK : ∀ c : Dev nD, m ((c : Thread nD τ).loc main_arg1) = m' ((d : Thread Cert.ReferenceIdeal.nD Cert.ReferenceIdeal.τ).loc Cert.ReferenceIdeal.main_arg1))
    (c : Dev nD) :
    outAt m c = Layout.block ⟨3, ![4, 512, 256]⟩ ⟨3, ![4, 2048, 256]⟩ 1 4 c (Cert.ReferenceIdeal.Value.res_main_v38 (F := Ideal) m' d) := by
  have hc : c.val < 4 := c.isLt
  funext i
  obtain ⟨b, r, l, rfl⟩ : ∃ (b : Fin 4) (r : Fin 512) (l : Fin 256), i = ix3 b r l := ⟨i 0, i 1, i 2, eq_ix3 i⟩
  have hr := r.isLt
  rw [out_at, Layout.block_apply]
  have hi : ∀ h : Layout.Tiles ⟨3, ![4, 512, 256]⟩ ⟨3, ![4, 2048, 256]⟩ 1 4, h.idx c (ix3 b r l) = ix3 b (⟨512 * c.val + r.val, by omega⟩ : Fin 2048) l := fun h => funext fun a => by
    match a with
    | (0 : Fin 3) => rfl
    | (1 : Fin 3) => exact Fin.ext (by show c.val * 512 + r.val = 512 * c.val + r.val; omega)
    | (2 : Fin 3) => rfl
  rw [hi, reference_at, k_eq, hK c]
  refine congrArg silu ?_
  have e := column_eq m _ (fun c => (x_eq m c).trans (hX c)) c b l
  rw [taps, taps, e _ (by omega), e _ (by omega), e _ (by omega), e _ (by omega)]
  rfl

end Cert.HaloProof

end
-- ==== Proof.lean ====
/-
# The certificate

The kernel, over the device floats and over the extended reals, and the reference run to their ends with their arguments
unchanged and every semaphore at zero; the idealized kernel is the kernel's own text; and on four devices holding the blocks
of one sequence the kernel's results are the blocks of the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The two printed programs of the kernel have the same body table: each has the one label, and the same function there. -/
theorem bodies_eq : (Cert.Kernel.defs₀ (F := Bits)) = Cert.KernelIdeal.defs₀ (F := Bits) := by
  unfold Cert.Kernel.defs₀ Cert.KernelIdeal.defs₀
  refine congrArg Defs.onTc (funext fun x => ?_)
  match x with
  | (0 : Fin 1) => rfl

/-- So the same table with the pipeline's labels. -/
theorem defs_eq : (Cert.Kernel.defs (F := Bits)) = Cert.KernelIdeal.defs (F := Bits) :=
  congrArg (Pipeline.defs Cert.KernelIdeal.pcfgs) bodies_eq

/-- The kernel over the device floats runs, leaves its arguments and ends with every semaphore at zero. -/
theorem quiescent_kernel : Cert.quiescent_Kernel := fun m ρ _ => by
  have h := Cert.HaloProof.run_quiet (F := Bits) m ρ
  rw [← defs_eq] at h
  exact h

/-- The kernel over the extended reals runs, leaves its arguments and ends with every semaphore at zero. -/
theorem quiescent_kernelIdeal : Cert.quiescent_KernelIdeal := fun m ρ _ => Cert.HaloProof.run_quiet (F := Ideal) m ρ

/-- The reference over the extended reals runs, leaves its arguments and, having no semaphore, ends with none above zero. -/
theorem quiescent_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On four devices holding the blocks of the reference's sequence, and its filter, every device's result is its block of the
    reference's result, and both programs leave their arguments. -/
theorem algebraic : Cert.algebraic_KernelIdeal_ReferenceIdeal := fun m ρ m' ρ' _ h =>
  ⟨Cert.ReferenceIdeal.Value.res_main_v38 (F := Ideal) m' 0,
    (θ_run Cert.KernelIdeal.defs _ _).mono
      (fun _ hr c => ⟨((hr.1 c (2 : Fin 3)).trans (Cert.HaloProof.final_o m c)).trans
          (Cert.HaloProof.block_eq m m' 0 (fun c => (h c).1) (fun c => (h c).2) c),
        (hr.1 c (0 : Fin 3)).trans (Cert.HaloProof.final_x m c), (hr.1 c (1 : Fin 3)).trans (Cert.HaloProof.final_k m c)⟩)
      (Cert.HaloProof.run_main (F := Ideal) m ρ),
    (θ_run Cert.ReferenceIdeal.defs _ _).mono (fun _ hr => hr 0) (Cert.ReferenceIdeal.Value.run (F := Ideal) m' ρ')⟩

/-- Everything the certificate claims. The idealized kernel's text is the kernel's, so nothing is to show of its rewrites. -/
theorem claim : Cert.Claim :=
  ⟨Cert.Kernel.Gen.facts, Cert.KernelIdeal.Gen.facts, Cert.ReferenceIdeal.Gen.facts,
    quiescent_kernel, quiescent_kernelIdeal, quiescent_referenceIdeal, trivial, algebraic⟩

end Cert.Proof

end
